-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x5120 : Shape := ⟨3, ![8, 1024, 5120]⟩
abbrev S5120x640 : Shape := ⟨2, ![5120, 640]⟩
abbrev S640 : Shape := ⟨1, ![640]⟩
abbrev S_ : Shape := ⟨0, ![]⟩
abbrev S1 : Shape := ⟨1, ![1]⟩
abbrev S8192x5120 : Shape := ⟨2, ![8192, 5120]⟩
abbrev S1x640 : Shape := ⟨2, ![1, 640]⟩
abbrev S8192x640 : Shape := ⟨2, ![8192, 640]⟩
abbrev S512x5120 : Shape := ⟨2, ![512, 5120]⟩
abbrev S512x640 : Shape := ⟨2, ![512, 640]⟩
abbrev S8x1024x640 : Shape := ⟨3, ![8, 1024, 640]⟩

abbrev nBuf : Space → Nat
  | .hbm => 13
  | .vmem => 9
  | .smem => 1
  | _ => 0

abbrev bufTy : (tb : Table) → Fin (tcTables nBuf tb) → BufTy
  | .hbm, ⟨0, _⟩ => ⟨S8x1024x5120, .bf16⟩
  | .hbm, ⟨1, _⟩ => ⟨S5120x640, .fp8e4m3⟩
  | .hbm, ⟨2, _⟩ => ⟨S640, .f32⟩
  | .hbm, ⟨3, _⟩ => ⟨S_, .f32⟩
  | .hbm, ⟨4, _⟩ => ⟨S640, .bf16⟩
  | .hbm, ⟨5, _⟩ => ⟨S1, .f32⟩
  | .hbm, ⟨6, _⟩ => ⟨S8192x5120, .bf16⟩
  | .hbm, ⟨7, _⟩ => ⟨S1x640, .f32⟩
  | .hbm, ⟨8, _⟩ => ⟨S1x640, .bf16⟩
  | .hbm, ⟨9, _⟩ => ⟨S8192x640, .bf16⟩
  | .hbm, ⟨10, _⟩ => ⟨S8192x5120, .fp8e4m3⟩
  | .hbm, ⟨11, _⟩ => ⟨S8x1024x640, .bf16⟩
  | .hbm, ⟨12, _⟩ => ⟨S8x1024x5120, .fp8e4m3⟩
  | .local _ .vmem, ⟨0, _⟩ => ⟨S512x5120, .bf16⟩
  | .local _ .vmem, ⟨1, _⟩ => ⟨S512x5120, .bf16⟩
  | .local _ .vmem, ⟨2, _⟩ => ⟨S5120x640, .fp8e4m3⟩
  | .local _ .vmem, ⟨3, _⟩ => ⟨S1x640, .f32⟩
  | .local _ .vmem, ⟨4, _⟩ => ⟨S1x640, .bf16⟩
  | .local _ .vmem, ⟨5, _⟩ => ⟨S512x640, .bf16⟩
  | .local _ .vmem, ⟨6, _⟩ => ⟨S512x640, .bf16⟩
  | .local _ .vmem, ⟨7, _⟩ => ⟨S512x5120, .fp8e4m3⟩
  | .local _ .vmem, ⟨8, _⟩ => ⟨S512x5120, .fp8e4m3⟩
  | .local _ .smem, ⟨0, _⟩ => ⟨S1, .f32⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x1024x5120 : Shape := ⟨3, ![8, 1024, 5120]⟩
abbrev S5120x640 : Shape := ⟨2, ![5120, 640]⟩
abbrev S640 : Shape := ⟨1, ![640]⟩
abbrev S_ : Shape := ⟨0, ![]⟩
abbrev S1x1x1 : Shape := ⟨3, ![1, 1, 1]⟩
abbrev S8x1024x640 : Shape := ⟨3, ![8, 1024, 640]⟩
abbrev S1x1x640 : Shape := ⟨3, ![1, 1, 640]⟩

abbrev nBuf : Space → Nat
  | .hbm => 8
  | .vmem => 7
  | .smem => 0
  | _ => 0

abbrev bufTy : (tb : Table) → Fin (tcTables nBuf tb) → BufTy
  | .hbm, ⟨0, _⟩ => ⟨S8x1024x5120, .bf16⟩
  | .hbm, ⟨1, _⟩ => ⟨S5120x640, .fp8e4m3⟩
  | .hbm, ⟨2, _⟩ => ⟨S640, .f32⟩
  | .hbm, ⟨3, _⟩ => ⟨S_, .f32⟩
  | .hbm, ⟨4, _⟩ => ⟨S640, .bf16⟩
  | .hbm, ⟨5, _⟩ => ⟨S1x1x1, .f32⟩
  | .hbm, ⟨6, _⟩ => ⟨S8x1024x640, .bf16⟩
  | .hbm, ⟨7, _⟩ => ⟨S8x1024x5120, .fp8e4m3⟩
  | .local _ .vmem, ⟨0, _⟩ => ⟨S8x1024x5120, .bf16⟩
  | .local _ .vmem, ⟨1, _⟩ => ⟨S5120x640, .fp8e4m3⟩
  | .local _ .vmem, ⟨2, _⟩ => ⟨S640, .f32⟩
  | .local _ .vmem, ⟨3, _⟩ => ⟨S1x1x1, .f32⟩
  | .local _ .vmem, ⟨4, _⟩ => ⟨S640, .bf16⟩
  | .local _ .vmem, ⟨5, _⟩ => ⟨S8x1024x640, .bf16⟩
  | .local _ .vmem, ⟨6, _⟩ => ⟨S8x1024x5120, .fp8e4m3⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  Hand-written, untrusted. What the static-scale fp8 linear layer computes over the extended reals, stated apart from
  both programs: the code of one activation, the array of codes, and the scaled product plus bias.
-/
module

public import Idealize.ShloMosaic.Lib.Pointwise.Index
public import Idealize.ShloMosaic.PureOps.Ideal

@[expose] public section

noncomputable section

namespace Cert.Proof

open Idealize.ShloMosaic

/-- The code of one activation `x` at the scale `s`: the quotient, clipped to the largest finite fp8 value on either side
    (the two words are -448 and 448 in f32). Over the extended reals the cast to fp8 is the identity. -/
def code (s x : EReal) : EReal :=
  FloatOps.minimumf (F := Ideal) (φ := .f32) (Scalar.ofBits .f32 0x43E00000#32)
    (FloatOps.maximumf (F := Ideal) (φ := .f32) (Scalar.ofBits .f32 0xC3E00000#32) (Ideal.div x s))

/-- Every activation's code. -/
def codesOf (X : (⟨3, ![8, 1024, 5120]⟩ : Shape).Idx → EReal) (s : EReal) : (⟨3, ![8, 1024, 5120]⟩ : Shape).Idx → EReal :=
  fun i => code s (X i)

/-- The layer's output: the codes times the weight codes, summed over the 5120 inputs, scaled by the product of the
    activation scale and the output channel's weight scale, plus the channel's bias. -/
def linearOf (X : (⟨3, ![8, 1024, 5120]⟩ : Shape).Idx → EReal) (W : (⟨2, ![5120, 640]⟩ : Shape).Idx → EReal)
    (ws : (⟨1, ![640]⟩ : Shape).Idx → EReal) (s : EReal) (b : (⟨1, ![640]⟩ : Shape).Idx → EReal) :
    (⟨3, ![8, 1024, 640]⟩ : Shape).Idx → EReal :=
  fun i => (∑ k : Fin 5120, code s (X (ix3 (n0 := 8) (n1 := 1024) (i 0) (i 1) k)) * W (ix2 (n1 := 640) k (i 2))) * (s * ws (ix1 (n0 := 640) (i 2))) + b (ix1 (n0 := 640) (i 2))

/-- The layer's output at batch entry `p`, row `q`, channel `n`. -/
theorem linearOf_apply (X : (⟨3, ![8, 1024, 5120]⟩ : Shape).Idx → EReal) (W : (⟨2, ![5120, 640]⟩ : Shape).Idx → EReal)
    (ws : (⟨1, ![640]⟩ : Shape).Idx → EReal) (s : EReal) (b : (⟨1, ![640]⟩ : Shape).Idx → EReal)
    (p : Fin 8) (q : Fin 1024) (n : Fin 640) :
    linearOf X W ws s b (ix3 p q n)
      = (∑ k : Fin 5120, code s (X (ix3 p q k)) * W (ix2 k n)) * (s * ws (ix1 n)) + b (ix1 n) := rfl

end Cert.Proof

end
-- ==== Proof.KernelBlock.lean ====
/-
  Hand-written, untrusted. The two payloads of `KernelIdeal`'s body (the block of codes, the block of outputs) at one
  index, over the extended reals and for any loaded blocks.
-/
module

public import proofs.«01_k».proof.Defs
public import proofs.«01_k».proof.Proof.Gen.KernelIdeal.Frame
public import proofs.«01_k».proof.Proof.Spec
public import Idealize.ShloMosaic.Lib.Pipeline.Value
public import Idealize.ShloMosaic.Lib.Pointwise.Contract
public import Idealize.ShloMosaic.PureOps.Ideal.Laws

@[expose] public section

noncomputable section

namespace Cert.Proof.Kernel

open Idealize.ShloMosaic Idealize.SL.Sem Cert.KernelIdeal Cert.KernelIdeal.Gen

/-- The dimension numbers of the kernel's product. -/
abbrev dotK : DotDims S512x5120 S5120x640 S512x640 := dot_S512x5120_S5120x640_S512x640_1_0_0_1_n_n

/-- The block of codes at one index is the code of the loaded activation there. -/
theorem codes_apply (s : Elt Ideal .f32) (x : Vec Ideal S512x5120 .bf16) (j : S512x5120.Idx) :
    k0_pay1 s x j = code s (x j) := by
  show code s (shapeCast S512x5120 x shapeCasts_S512x5120_S512x5120 j) = code s (x j)
  rw [shapeCast_self]

/-- The left operand's index in the kernel's product: the output's row, the summed coordinate. -/
theorem lhs_ix (j : S512x640.Idx) (k : Fin 5120) :
    Shape.Idx.norm (dotK.lhsIdx j (dotK.contrIdx₁ (a := 1) rfl (K := 5120) rfl k)) = ix2 (n0 := 512) (j 0) k := by
  funext a; fin_cases a <;> rfl

/-- The right operand's index in the kernel's product: the summed coordinate, the output's column. -/
theorem rhs_ix (j : S512x640.Idx) (k : Fin 5120) :
    Shape.Idx.norm (dotK.rhsIdx j (dotK.contrIdx₁ (a := 1) rfl (K := 5120) rfl k)) = ix2 (n1 := 640) k (j 1) := by
  funext a; fin_cases a <;> rfl

/-- A row laid along every row of the block, at one index: the row's entry in that column. -/
theorem row_apply (v : FVec Ideal S1x640 .f32) (j : S512x640.Idx) :
    broadcastTo S512x640 v broadcasts_S1x640_S512x640 j = v (ix2 (n1 := 640) 0 (j 1)) :=
  broadcastTo_apply _ _ j (ix2 (n1 := 640) 0 (j 1)) fun a => by fin_cases a <;> rfl

/-- The block of outputs at one index: the row of codes times the column of weights, scaled, plus the bias. -/
theorem linear_apply (s : Elt Ideal .f32) (x : Vec Ideal S512x5120 .bf16) (w : Vec Ideal S5120x640 .fp8e4m3)
    (ws : Vec Ideal S1x640 .f32) (b : Vec Ideal S1x640 .bf16) (j : S512x640.Idx) :
    k0_pay2 s x w ws b j
      = (∑ k : Fin 5120, code s (x (ix2 (n0 := 512) (j 0) k)) * w (ix2 (n1 := 640) k (j 1))) * (s * ws (ix2 (n1 := 640) 0 (j 1))) + b (ix2 (n1 := 640) 0 (j 1)) := by
  show (Ideal.matmul dotK (k0_pay1 s x) w (fun _ => Ideal.ofBits .f32 0x00000000#32) j
      * broadcastTo S512x640 (fun i => s * shapeCast S1x640 ws shapeCasts_S1x640_S1x640 i) broadcasts_S1x640_S512x640 j : EReal)
      + broadcastTo S512x640 (shapeCast S1x640 b shapeCasts_S1x640_S1x640) broadcasts_S1x640_S512x640 j = _
  rw [Ideal.matmul_apply₁ _ (a := 1) rfl (K := 5120) rfl, Ideal.ofBits_zero_f32, zero_add]
  simp only [lhs_ix, rhs_ix, codes_apply, shapeCast_self]
  rw [row_apply, row_apply]

end Cert.Proof.Kernel

end
-- ==== Proof.KernelValue.lean ====
/-
  Hand-written, untrusted. `KernelIdeal`'s run over the extended reals. Each grid point writes 512 rows of the layer's output
  and of the codes; the sixteen points' blocks tile the two arrays of 8192 rows; the reshapes before and after the region lay
  8192 rows as 8 times 1024. So the two results end holding the layer's output and the codes of the arguments.
-/
module

public import proofs.«01_k».proof.Proof.KernelBlock

@[expose] public section

noncomputable section

namespace Cert.Proof.Kernel

open Idealize.ShloMosaic Idealize.SL.Sem Cert.KernelIdeal Cert.KernelIdeal.Gen Idealize.ShloMosaic.TcCoe
open Idealize.ShloMosaic.Pipeline (Dat)

/-! ## What one grid point leaves in the two output blocks -/

/-- The origin of a rank-2 block is the zero offset on every axis. -/
theorem hz : (![0, 0] : Fin 2 → Nat) = fun _ => 0 := funext fun a => by fin_cases a <;> rfl

/-- The scalar load reads the one word of its buffer. -/
theorem ld_word (x : Vec Ideal S1 .f32) (j : (Rect.unit (s := S1) ![0] S1.size inb_S1_S1_0).shape.Idx) :
    View.ld x (Rect.unit (s := S1) ![0] S1.size inb_S1_S1_0) j = x (ix1 0) :=
  congrArg x (funext fun a => by match a with | ⟨0, _⟩ => exact Subsingleton.elim (α := Fin 1) _ _)

/-- What the body leaves in the block of outputs: the payload of the loaded blocks and the scale's one word. -/
theorem out5_eq (c : Dev nD) (i : grid0.Coords) (a1 : Memref sig .tc .smem S1 .f32) (h1 : a1.IsWhole)
    (a2 : Memref sig .tc .vmem S512x5120 .bf16) (h2 : a2.IsWhole) (a3 : Memref sig .tc .vmem S5120x640 .fp8e4m3) (h3 : a3.IsWhole)
    (a4 : Memref sig .tc .vmem S1x640 .f32) (h4 : a4.IsWhole) (a5 : Memref sig .tc .vmem S1x640 .bf16) (h5 : a5.IsWhole)
    (a6 : Memref sig .tc .vmem S512x640 .bf16) (h6 : a6.IsWhole) (a7 : Memref sig .tc .vmem S512x5120 .fp8e4m3) (h7 : a7.IsWhole)
    (x0 : Vec Ideal S1 .f32) (x1 : Vec Ideal S512x5120 .bf16) (x2 : Vec Ideal S5120x640 .fp8e4m3) (x3 : Vec Ideal S1x640 .f32)
    (x4 : Vec Ideal S1x640 .bf16) :
    out0_A_5 c i a1 h1 a2 h2 a3 h3 a4 h4 a5 h5 a6 h6 a7 h7 x0 x1 x2 x3 x4 = k0_pay2 (x0 (ix1 0)) x1 x2 x3 x4 := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x5120) hz, View.ld_unit_zero (S := S5120x640) hz, View.ld_unit_zero (S := S1x640) hz]
  exact congrArg (k0_pay2 · x1 x2 x3 x4) (ld_word x0 _)

/-- What the body leaves in the block of codes: the payload of the loaded activations and the scale's one word. -/
theorem out6_eq (c : Dev nD) (i : grid0.Coords) (a1 : Memref sig .tc .smem S1 .f32) (h1 : a1.IsWhole)
    (a2 : Memref sig .tc .vmem S512x5120 .bf16) (h2 : a2.IsWhole) (a3 : Memref sig .tc .vmem S5120x640 .fp8e4m3) (h3 : a3.IsWhole)
    (a4 : Memref sig .tc .vmem S1x640 .f32) (h4 : a4.IsWhole) (a5 : Memref sig .tc .vmem S1x640 .bf16) (h5 : a5.IsWhole)
    (a6 : Memref sig .tc .vmem S512x640 .bf16) (h6 : a6.IsWhole) (a7 : Memref sig .tc .vmem S512x5120 .fp8e4m3) (h7 : a7.IsWhole)
    (x0 : Vec Ideal S1 .f32) (x1 : Vec Ideal S512x5120 .bf16) (x2 : Vec Ideal S5120x640 .fp8e4m3) (x3 : Vec Ideal S1x640 .f32)
    (x4 : Vec Ideal S1x640 .bf16) :
    out0_A_6 c i a1 h1 a2 h2 a3 h3 a4 h4 a5 h5 a6 h6 a7 h7 x0 x1 x2 x3 x4 = k0_pay1 (x0 (ix1 0)) x1 := by
  unfold out0_A_6
  rw [View.read_writes_eq_canon _ _ _ (cover0_A_6 c i a1 h1 a2 h2 a3 h3 a4 h4 a5 h5 a6 h6 a7 h7 x0 x1 x2 x3 x4)]
  unfold kernelRun0_A
  dsimp only
  sl_unfold_words
  rw [View.canon_unit_zero hz]
  simp only [View.readAt_eq_ld, h1.read_unread, h2.read_unread, View.ld_unit_zero (S := S512x5120) hz]
  exact congrArg (k0_pay1 · x1) (ld_word x0 _)

/-! ## The windows' blocks in their arrays -/

variable (m : (ℓ : Loc nD τ sig) → Buf (Elt Ideal) ℓ) (ρ : Dev nD → PrngReg)

/-- Where each window's block starts at grid point `t`: the activations and the two outputs at row block `t`, every other
    window at the origin (decided over the sixteen points). -/
theorem idx_facts : ∀ t : Fin cfg0.N, win0_0.index t (0 : Fin 1) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The row of the array that row `r` of block `t` is. -/
def row (t : Fin cfg0.N) (r : Fin 512) : Fin 8192 :=
  ⟨t.val * 512 + r.val, by have := t.isLt; have := r.isLt; have : cfg0.N = 16 := N_0; omega⟩

/-- The scale's block is the one-entry array. -/
theorem iblk0_apply (c : Dev nD) (t : Fin cfg0.N) : iblk m c 0 t (ix1 0) = V m c main_v0 (ix1 0) := by
  show V m c main_v0 (((cfg0.win 0).blk t).view.emb (ix1 0)) = _
  refine congrArg _ (funext fun a => Fin.ext ?_)
  have h := idx_facts t
  match a with
  | ⟨0, _⟩ => show win0_0.index t (0 : Fin 1) * 1 + 1 * 0 = 0; omega

/-- A row of the activations' block at point `t` is the array's row `512 t + r`. -/
theorem iblk1_apply (c : Dev nD) (t : Fin cfg0.N) (r : Fin 512) (k : Fin 5120) :
    iblk m c 1 t (ix2 r k) = V m c main_v1 (ix2 (row t r) k) := by
  show V m c main_v1 (((cfg0.win 1).blk t).view.emb (ix2 r k)) = _
  refine congrArg _ (funext fun a => Fin.ext ?_)
  have h := idx_facts t
  match a with
  | ⟨0, _⟩ => show win0_1.index t (0 : Fin 2) * 512 + 1 * r.val = t.val * 512 + r.val; omega
  | ⟨1, _⟩ => show win0_1.index t (1 : Fin 2) * 5120 + 1 * k.val = k.val; omega

/-- The weight codes' block is the whole array. -/
theorem iblk2_apply (c : Dev nD) (t : Fin cfg0.N) (k : Fin 5120) (n : Fin 640) :
    iblk m c 2 t (ix2 k n) = V m c main_arg1 (ix2 k n) := by
  show V m c main_arg1 (((cfg0.win 2).blk t).view.emb (ix2 k n)) = _
  refine congrArg _ (funext fun a => Fin.ext ?_)
  have h := idx_facts t
  match a with
  | ⟨0, _⟩ => show win0_2.index t (0 : Fin 2) * 5120 + 1 * k.val = k.val; omega
  | ⟨1, _⟩ => show win0_2.index t (1 : Fin 2) * 640 + 1 * n.val = n.val; omega

/-- The weight scales' block is the whole row. -/
theorem iblk3_apply (c : Dev nD) (t : Fin cfg0.N) (n : Fin 640) :
    iblk m c 3 t (ix2 0 n) = V m c main_v2 (ix2 0 n) := by
  show V m c main_v2 (((cfg0.win 3).blk t).view.emb (ix2 0 n)) = _
  refine congrArg _ (funext fun a => Fin.ext ?_)
  have h := idx_facts t
  match a with
  | ⟨0, _⟩ => show win0_3.index t (0 : Fin 2) * 1 + 1 * 0 = 0; omega
  | ⟨1, _⟩ => show win0_3.index t (1 : Fin 2) * 640 + 1 * n.val = n.val; omega

/-- The biases' block is the whole row. -/
theorem iblk4_apply (c : Dev nD) (t : Fin cfg0.N) (n : Fin 640) :
    iblk m c 4 t (ix2 0 n) = V m c main_v3 (ix2 0 n) := by
  show V m c main_v3 (((cfg0.win 4).blk t).view.emb (ix2 0 n)) = _
  refine congrArg _ (funext fun a => Fin.ext ?_)
  have h := idx_facts t
  match a with
  | ⟨0, _⟩ => show win0_4.index t (0 : Fin 2) * 1 + 1 * 0 = 0; omega
  | ⟨1, _⟩ => show win0_4.index t (1 : Fin 2) * 640 + 1 * n.val = n.val; omega

/-- Where an index of the output's block at point `t` lies in the output's array. -/
theorem emb5 (t : Fin cfg0.N) (r : Fin 512) (n : Fin 640) :
    ((cfg0.win 5).blk t).view.emb (ix2 r n) = ix2 (row t r) n := by
  refine funext fun a => Fin.ext ?_
  have h := idx_facts t
  match a with
  | ⟨0, _⟩ => show win0_5.index t (0 : Fin 2) * 512 + 1 * r.val = t.val * 512 + r.val; omega
  | ⟨1, _⟩ => show win0_5.index t (1 : Fin 2) * 640 + 1 * n.val = n.val; omega

/-- Where an index of the codes' block at point `t` lies in the codes' array. -/
theorem emb6 (t : Fin cfg0.N) (r : Fin 512) (k : Fin 5120) :
    ((cfg0.win 6).blk t).view.emb (ix2 r k) = ix2 (row t r) k := by
  refine funext fun a => Fin.ext ?_
  have h := idx_facts t
  match a with
  | ⟨0, _⟩ => show win0_6.index t (0 : Fin 2) * 512 + 1 * r.val = t.val * 512 + r.val; omega
  | ⟨1, _⟩ => show win0_6.index t (1 : Fin 2) * 5120 + 1 * k.val = k.val; omega

/-- Every row of the arrays is a row of some point's block. -/
theorem exists_row (p : Fin 8192) : ∃ t : Fin cfg0.N, ∃ r : Fin 512, p = row t r := by
  have hN : cfg0.N = 16 := N_0
  have hp := p.isLt
  exact ⟨⟨p.val / 512, by omega⟩, ⟨p.val % 512, by omega⟩, Fin.ext (by show p.val = p.val / 512 * 512 + p.val % 512; omega)⟩

/-! ## The two arrays after the region -/

/-- The output's array of 8192 rows, of the arrays the region reads. -/
def rowsOf (X : S8192x5120.Idx → EReal) (W : S5120x640.Idx → EReal) (ws : S1x640.Idx → EReal) (s : EReal)
    (b : S1x640.Idx → EReal) : S8192x640.Idx → EReal :=
  fun i => (∑ k : Fin 5120, code s (X (ix2 (n0 := 8192) (i 0) k)) * W (ix2 (n1 := 640) k (i 1)))
    * (s * ws (ix2 (n1 := 640) 0 (i 1))) + b (ix2 (n1 := 640) 0 (i 1))

/-- `rowsOf` at row `r` and channel `n`. -/
theorem rowsOf_apply (X : S8192x5120.Idx → EReal) (W : S5120x640.Idx → EReal) (ws : S1x640.Idx → EReal) (s : EReal)
    (b : S1x640.Idx → EReal) (r : Fin 8192) (n : Fin 640) :
    rowsOf X W ws s b (ix2 r n) = (∑ k : Fin 5120, code s (X (ix2 r k)) * W (ix2 k n)) * (s * ws (ix2 0 n)) + b (ix2 0 n) := rfl

/-- What point `t` writes back to the output is its block of `rowsOf`. -/
theorem flushed5 (c : Dev nD) (t : Fin cfg0.N) :
    (dats m 0 c).flushed 5 t = ((cfg0.win 5).blk t).view.read (Elt Ideal)
      (rowsOf (V m c main_v1) (V m c main_arg1) (V m c main_v2) (V m c main_v0 (ix1 0)) (V m c main_v3)) := by
  show (cfg0.win 5).cut (grid0.coords t) ((dats m 0 c).after 5 t) = _
  rw [after0_5]
  unfold outsAt0
  dsimp only
  rw [out5_eq]
  funext j
  obtain ⟨r, n, rfl⟩ : ∃ (r : Fin 512) (n : Fin 640), j = ix2 r n := ⟨j 0, j 1, eq_ix2 j⟩
  show k0_pay2 (iblk m c 0 t (ix1 0)) (iblk m c 1 t) (iblk m c 2 t) (iblk m c 3 t) (iblk m c 4 t) (ix2 r n)
    = rowsOf (V m c main_v1) (V m c main_arg1) (V m c main_v2) (V m c main_v0 (ix1 0)) (V m c main_v3)
        (((cfg0.win 5).blk t).view.emb (ix2 r n))
  rw [emb5, linear_apply]
  simp only [ix2_0, ix2_1, iblk0_apply, iblk1_apply, iblk2_apply, iblk3_apply, iblk4_apply]
  rfl

/-- What point `t` writes back to the codes is its block of the activations' codes. -/
theorem flushed6 (c : Dev nD) (t : Fin cfg0.N) :
    (dats m 0 c).flushed 6 t = ((cfg0.win 6).blk t).view.read (Elt Ideal)
      (fun i : S8192x5120.Idx => code (V m c main_v0 (ix1 0)) (V m c main_v1 i)) := by
  show (cfg0.win 6).cut (grid0.coords t) ((dats m 0 c).after 6 t) = _
  rw [after0_6]
  unfold outsAt0
  dsimp only
  rw [out6_eq]
  funext j
  obtain ⟨r, k, rfl⟩ : ∃ (r : Fin 512) (k : Fin 5120), j = ix2 r k := ⟨j 0, j 1, eq_ix2 j⟩
  show k0_pay1 (iblk m c 0 t (ix1 0)) (iblk m c 1 t) (ix2 r k)
    = code (V m c main_v0 (ix1 0)) (V m c main_v1 (((cfg0.win 6).blk t).view.emb (ix2 r k)))
  rw [emb6, codes_apply, iblk0_apply, iblk1_apply]

/-- Every index of the output's array is in some point's block. -/
theorem covered5 (i : S8192x640.Idx) :
    ∃ t : Fin cfg0.N, (cfg0.win 5).flush t = true ∧ i ∈ ((cfg0.win 5).blk t).view.set := by
  obtain ⟨p, n, rfl⟩ : ∃ (p : Fin 8192) (n : Fin 640), i = ix2 p n := ⟨i 0, i 1, eq_ix2 i⟩
  obtain ⟨t, r, rfl⟩ := exists_row p
  refine ⟨t, flush0_5 t, ?_⟩
  have h := ((cfg0.win 5).blk t).view.emb_mem_set (ix2 r n)
  rwa [emb5] at h

/-- Every index of the codes' array is in some point's block. -/
theorem covered6 (i : S8192x5120.Idx) :
    ∃ t : Fin cfg0.N, (cfg0.win 6).flush t = true ∧ i ∈ ((cfg0.win 6).blk t).view.set := by
  obtain ⟨p, k, rfl⟩ : ∃ (p : Fin 8192) (k : Fin 5120), i = ix2 p k := ⟨i 0, i 1, eq_ix2 i⟩
  obtain ⟨t, r, rfl⟩ := exists_row p
  refine ⟨t, flush0_6 t, ?_⟩
  have h := ((cfg0.win 6).blk t).view.emb_mem_set (ix2 r k)
  rwa [emb6] at h

/-- The output's array after the region. -/
theorem final5 (c : Dev nD) : (dats m 0 c).arrAt 5 cfg0.N
    = rowsOf (V m c main_v1) (V m c main_arg1) (V m c main_v2) (V m c main_v0 (ix1 0)) (V m c main_v3) :=
  (dats m 0 c).arrAt_eq_of_cover 5 _ (fun t _ => flushed5 m c t) covered5

/-- The codes' array after the region. -/
theorem final6 (c : Dev nD) : (dats m 0 c).arrAt 6 cfg0.N
    = fun i : S8192x5120.Idx => code (V m c main_v0 (ix1 0)) (V m c main_v1 i) :=
  (dats m 0 c).arrAt_eq_of_cover 6 _ (fun t _ => flushed6 m c t) covered6

/-! ## The reshapes before the region -/

/-- The one-entry array holds the scalar argument. -/
theorem scale_entry (c : Dev nD) : V m c main_v0 (ix1 0) = m ((c : Thread nD τ).loc main_arg3) (fun a => a.elim0) := by
  entry_read
  exact shapeCast_apply _ _ _ _ rfl

/-- The row of the flattened activations that row `q` of batch entry `p` becomes. -/
def flat (p : Fin 8) (q : Fin 1024) : Fin 8192 := ⟨p.val * 1024 + q.val, by have := p.isLt; have := q.isLt; omega⟩

/-- The flattened activations. -/
theorem x_entry (c : Dev nD) (p : Fin 8) (q : Fin 1024) (k : Fin 5120) :
    V m c main_v1 (ix2 (flat p q) k) = m ((c : Thread nD τ).loc main_arg0) (ix3 p q k) := by
  entry_read
  exact shapeCast_apply _ _ _ _ (by
    show (S8x1024x5120.rowMajor (ix3 p q k)).val = (S8192x5120.rowMajor (ix2 (flat p q) k)).val
    rw [Shape.rowMajor_val_two, Shape.rowMajor_val_three]; rfl)

/-- The weight scales as a row. -/
theorem ws_entry (c : Dev nD) (n : Fin 640) :
    V m c main_v2 (ix2 0 n) = m ((c : Thread nD τ).loc main_arg2) (ix1 n) := by
  entry_read
  exact shapeCast_apply _ _ _ _ (by
    show (S640.rowMajor (ix1 n)).val = (S1x640.rowMajor (ix2 0 n)).val
    rw [Shape.rowMajor_val_two, Shape.rowMajor_val_one]; show n.val = 0 * 640 + n.val; omega)

/-- The biases as a row. -/
theorem bias_entry (c : Dev nD) (n : Fin 640) :
    V m c main_v3 (ix2 0 n) = m ((c : Thread nD τ).loc main_arg4) (ix1 n) := by
  entry_read
  exact shapeCast_apply _ _ _ _ (by
    show (S640.rowMajor (ix1 n)).val = (S1x640.rowMajor (ix2 0 n)).val
    rw [Shape.rowMajor_val_two, Shape.rowMajor_val_one]; show n.val = 0 * 640 + n.val; omega)

/-! ## The reshapes after the region -/

/-- A row of `rowsOf` is the layer's output there, when the flattened arrays hold the arguments' entries. -/
theorem linear_of_rows {X : S8192x5120.Idx → EReal} {W W' : S5120x640.Idx → EReal} {ws : S1x640.Idx → EReal} {s s' : EReal}
    {b : S1x640.Idx → EReal} (X' : S8x1024x5120.Idx → EReal) (ws' : S640.Idx → EReal) (b' : S640.Idx → EReal)
    (p : Fin 8) (q : Fin 1024) (n : Fin 640) (hX : ∀ k, X (ix2 (flat p q) k) = X' (ix3 p q k))
    (hW : ∀ k, W (ix2 k n) = W' (ix2 k n)) (hws : ws (ix2 0 n) = ws' (ix1 n)) (hs : s = s')
    (hb : b (ix2 0 n) = b' (ix1 n)) :
    rowsOf X W ws s b (ix2 (flat p q) n) = linearOf X' W' ws' s' b' (ix3 p q n) := by
  rw [rowsOf_apply, linearOf_apply, hws, hb, hs]
  simp only [hX, hW]

/-- The first reshape after the region lays the output's rows as 8 times 1024, whatever the region leaves. -/
theorem tail5 (W : Valuation τ sig (Elt Ideal)) :
    StableHlo.after hostOps1 W (Proc.devRef .tc main_v5)
      = shapeCast S8x1024x640 (W (Proc.devRef .tc main_v4_0)) shapeCasts_S8192x640_S8x1024x640 := by
  unfold_abbrev_sides
  after_results
  rfl

/-- The second lays the codes' rows the same way. -/
theorem tail6 (W : Valuation τ sig (Elt Ideal)) :
    StableHlo.after hostOps1 W (Proc.devRef .tc main_v6)
      = shapeCast S8x1024x5120 (W (Proc.devRef .tc main_v4_1)) shapeCasts_S8192x5120_S8x1024x5120 := by
  unfold_abbrev_sides
  after_results
  rfl

/-- Result 1: the output's array as 8 times 1024 rows is the layer's output of the arguments. -/
theorem result5 (c : Dev nD) :
    Pipeline.afterTail₀ cfgs (dats m) 0 (V0 m) [hostOps1] c main_v5
      = linearOf (m ((c : Thread nD τ).loc main_arg0)) (m ((c : Thread nD τ).loc main_arg1)) (m ((c : Thread nD τ).loc main_arg2))
          (m ((c : Thread nD τ).loc main_arg3) fun a => a.elim0) (m ((c : Thread nD τ).loc main_arg4)) := by
  have e : Pipeline.afterTail₀ cfgs (dats m) 0 (V0 m) [hostOps1] c main_v5
      = shapeCast S8x1024x640 ((dats m 0 c).arrAt 5 cfg0.N) shapeCasts_S8192x640_S8x1024x640 :=
    (tail5 _).trans (congrArg (shapeCast S8x1024x640 · shapeCasts_S8192x640_S8x1024x640)
      (Pipeline.withArrays_arr spec0 winFacts0.arr_inj c (V0 m c) (fun w => (dats m 0 c).arrAt w cfg0.N) 5))
  rw [e, final5]
  funext j
  obtain ⟨p, q, n, rfl⟩ : ∃ (p : Fin 8) (q : Fin 1024) (n : Fin 640), j = ix3 p q n := ⟨j 0, j 1, j 2, eq_ix3 j⟩
  refine (shapeCast_apply _ _ (ix3 p q n) (ix2 (flat p q) n) (by
    show (S8192x640.rowMajor (ix2 (flat p q) n)).val = (S8x1024x640.rowMajor (ix3 p q n)).val
    rw [Shape.rowMajor_val_two, Shape.rowMajor_val_three]; rfl)).trans ?_
  exact linear_of_rows _ _ _ p q n (fun k => x_entry m c p q k) (fun k => congrFun (V_main_arg1 m c) (ix2 k n))
    (ws_entry m c n) (scale_entry m c) (bias_entry m c n)

/-- Result 2: the codes' array as 8 times 1024 rows is the codes of the arguments. -/
theorem result6 (c : Dev nD) :
    Pipeline.afterTail₀ cfgs (dats m) 0 (V0 m) [hostOps1] c main_v6
      = codesOf (m ((c : Thread nD τ).loc main_arg0)) (m ((c : Thread nD τ).loc main_arg3) fun a => a.elim0) := by
  have e : Pipeline.afterTail₀ cfgs (dats m) 0 (V0 m) [hostOps1] c main_v6
      = shapeCast S8x1024x5120 ((dats m 0 c).arrAt 6 cfg0.N) shapeCasts_S8192x5120_S8x1024x5120 :=
    (tail6 _).trans (congrArg (shapeCast S8x1024x5120 · shapeCasts_S8192x5120_S8x1024x5120)
      (Pipeline.withArrays_arr spec0 winFacts0.arr_inj c (V0 m c) (fun w => (dats m 0 c).arrAt w cfg0.N) 6))
  rw [e, final6]
  funext j
  obtain ⟨p, q, k, rfl⟩ : ∃ (p : Fin 8) (q : Fin 1024) (k : Fin 5120), j = ix3 p q k := ⟨j 0, j 1, j 2, eq_ix3 j⟩
  refine (shapeCast_apply _ _ (ix3 p q k) (ix2 (flat p q) k) (by
    show (S8192x5120.rowMajor (ix2 (flat p q) k)).val = (S8x1024x5120.rowMajor (ix3 p q k)).val
    rw [Shape.rowMajor_val_two, Shape.rowMajor_val_three]; rfl)).trans ?_
  rw [scale_entry, x_entry]
  rfl

/-- The run: the results hold the layer's output and the codes of the arguments as launched, which end unchanged. -/
theorem run : θ_run (defs (F := Ideal)) (onTc (τ := τ) (main (F := Ideal))) ⟨m, fun _ => 0, ρ⟩ (fun r => ∀ c : Dev nD,
    r.2.mem ((c : Thread nD τ).loc main_v5)
      = linearOf (m ((c : Thread nD τ).loc main_arg0)) (m ((c : Thread nD τ).loc main_arg1)) (m ((c : Thread nD τ).loc main_arg2))
          (m ((c : Thread nD τ).loc main_arg3) fun a => a.elim0) (m ((c : Thread nD τ).loc main_arg4))
    ∧ r.2.mem ((c : Thread nD τ).loc main_v6)
      = codesOf (m ((c : Thread nD τ).loc main_arg0)) (m ((c : Thread nD τ).loc main_arg3) fun a => a.elim0)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c =>
    ⟨((h c).2 main_v5 (Pipeline.mem_restRefs_of main_v5 (by decide) (by decide))).trans (result5 m c),
     ((h c).2 main_v6 (Pipeline.mem_restRefs_of main_v6 (by decide) (by decide))).trans (result6 m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.Proof.Kernel

end
-- ==== Proof.ReferenceValue.lean ====
/-
  Hand-written, untrusted. `ReferenceIdeal`'s run over the extended reals: its two arrays end holding the layer's output
  and the codes of the arguments, which end unchanged.
-/
module

public import proofs.«01_k».proof.Defs
public import proofs.«01_k».proof.Proof.Gen.ReferenceIdeal.Value
public import proofs.«01_k».proof.Proof.Spec
public import Idealize.ShloMosaic.Lib.Pipeline.Value
public import Idealize.ShloMosaic.Lib.Pointwise.Contract
public import Idealize.ShloMosaic.PureOps.Ideal.Laws
public import Idealize.ShloMosaic.Lib.Affine

@[expose] public section

noncomputable section

namespace Cert.Proof.Reference

open Idealize.ShloMosaic Idealize.SL.Sem Cert.ReferenceIdeal Cert.ReferenceIdeal.Gen Idealize.ShloMosaic.TcCoe
open Idealize.ShloMosaic.Pipeline (Dat)

/-- The dimension numbers of the reference's product. -/
abbrev dotR : DotDims S8x1024x5120 S5120x640 S8x1024x640 := dot_S8x1024x5120_S5120x640_S8x1024x640_2_0_01_1_n_n

/-! ## The body's payloads at an index -/

/-- The one-entry array laid over the whole activation shape: its entry. -/
theorem scale_apply (v : FVec Ideal S1x1x1 .f32) (j : S8x1024x5120.Idx) :
    broadcastTo S8x1024x5120 v broadcasts_S1x1x1_S8x1024x5120 j = v (ix3 0 0 0) :=
  broadcastTo_apply _ _ j (ix3 0 0 0) fun a => by fin_cases a <;> rfl

/-- The array of codes at one index is the code of the activation there. -/
theorem codes_apply (v0 : Vec Ideal S1x1x1 .f32) (x : Vec Ideal S8x1024x5120 .bf16) (j : S8x1024x5120.Idx) :
    k0_pay2 v0 x j = code (v0 (ix3 0 0 0)) (x j) := by
  show code (broadcastTo S8x1024x5120 (shapeCast S1x1x1 v0 shapeCasts_S1x1x1_S1x1x1) broadcasts_S1x1x1_S8x1024x5120 j) (x j) = _
  rw [scale_apply, shapeCast_self]

/-- The array of codes. -/
theorem codes_eq (v0 : Vec Ideal S1x1x1 .f32) (x : Vec Ideal S8x1024x5120 .bf16) :
    k0_pay2 v0 x = codesOf x (v0 (ix3 0 0 0)) :=
  funext fun j => codes_apply v0 x j

/-- The left operand's index in the reference's product: the output's two leading coordinates, the summed one. -/
theorem lhs_ix (j : S8x1024x640.Idx) (k : Fin 5120) :
    Shape.Idx.norm (dotR.lhsIdx j (dotR.contrIdx₁ (a := 2) rfl (K := 5120) rfl k)) = ix3 (n0 := 8) (n1 := 1024) (j 0) (j 1) k := by
  funext a; fin_cases a <;> rfl

/-- The right operand's index in the reference's product: the summed coordinate, the output's column. -/
theorem rhs_ix (j : S8x1024x640.Idx) (k : Fin 5120) :
    Shape.Idx.norm (dotR.rhsIdx j (dotR.contrIdx₁ (a := 2) rfl (K := 5120) rfl k)) = ix2 (n1 := 640) k (j 2) := by
  funext a; fin_cases a <;> rfl

/-- A channel vector laid along every row, at one index: the channel's entry. -/
theorem row_apply (v : FVec Ideal S1x1x640 .f32) (j : S8x1024x640.Idx) :
    broadcastTo S8x1024x640 v broadcasts_S1x1x640_S8x1024x640 j = v (ix3 (n2 := 640) 0 0 (j 2)) :=
  broadcastTo_apply _ _ j (ix3 (n2 := 640) 0 0 (j 2)) fun a => by fin_cases a <;> rfl

/-- A channel vector given two leading axes of length one, at one index: the channel's entry. -/
theorem lead_apply {α : Type} (v : S640.Idx → α) (j : S8x1024x640.Idx) :
    shapeCast S1x1x640 v shapeCasts_S640_S1x1x640 (ix3 (n2 := 640) 0 0 (j 2)) = v (ix1 (n0 := 640) (j 2)) :=
  shapeCast_apply _ _ _ _ (by
    rw [Shape.rowMajor_val_one, Shape.rowMajor_val_three]
    show (j 2).val = (0 * 1 + 0) * 640 + (j 2).val
    omega)

/-- The one-entry array laid along the channels: its entry. -/
theorem scale_row_apply (v : FVec Ideal S1x1x1 .f32) (j : S1x1x640.Idx) :
    broadcastTo S1x1x640 v broadcasts_S1x1x1_S1x1x640 j = v (ix3 0 0 0) :=
  broadcastTo_apply _ _ j (ix3 0 0 0) fun a => by fin_cases a <;> rfl

/-- The output at one index: the row of codes times the column of weights, scaled, plus the bias. -/
theorem linear_apply (v0 : Vec Ideal S1x1x1 .f32) (x : Vec Ideal S8x1024x5120 .bf16) (w : Vec Ideal S5120x640 .fp8e4m3)
    (ws : Vec Ideal S640 .f32) (b : Vec Ideal S640 .bf16) :
    k0_pay3 v0 x w ws b = linearOf x w ws (v0 (ix3 0 0 0)) b := by
  funext j
  show (Ideal.matmul dotR (k0_pay2 v0 x) w (fun _ => Ideal.ofBits .f32 0x00000000#32) j
      * broadcastTo S8x1024x640 (fun i => broadcastTo S1x1x640 (shapeCast S1x1x1 v0 shapeCasts_S1x1x1_S1x1x1)
          broadcasts_S1x1x1_S1x1x640 i * shapeCast S1x1x640 ws shapeCasts_S640_S1x1x640 i) broadcasts_S1x1x640_S8x1024x640 j : EReal)
      + broadcastTo S8x1024x640 (shapeCast S1x1x640 b shapeCasts_S640_S1x1x640) broadcasts_S1x1x640_S8x1024x640 j = _
  rw [Ideal.matmul_apply₁ _ (a := 2) rfl (K := 5120) rfl, Ideal.ofBits_zero_f32, zero_add]
  simp only [lhs_ix, rhs_ix, codes_apply]
  rw [row_apply, row_apply, scale_row_apply, lead_apply, lead_apply, shapeCast_self]
  rfl

/-! ## The arrays after the run -/

variable (m : (ℓ : Loc nD τ sig) → Buf (Elt Ideal) ℓ) (ρ : Dev nD → PrngReg)

/-- The one grid point. -/
def t₀ : Fin cfg0.N := ⟨0, by decide⟩

/-- The whole-buffer loads read the buffers and the one covering store leaves the output. -/
theorem out5_eq (x0 : Vec Ideal S8x1024x5120 .bf16) (x1 : Vec Ideal S5120x640 .fp8e4m3) (x2 : Vec Ideal S640 .f32)
    (x3 : Vec Ideal S1x1x1 .f32) (x4 : Vec Ideal S640 .bf16) : out0_5 x0 x1 x2 x3 x4 = k0_pay3 x3 x0 x1 x2 x4 := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold out0_5
  rw [View.canon_unit_zero hz3, View.ld_unit_zero hz3, View.ld_unit_zero hz3, View.ld_unit_zero hz2, View.ld_unit_zero hz1,
    View.ld_unit_zero hz1]

/-- The whole-buffer loads read the buffers and the one covering store leaves the codes. -/
theorem out6_eq (x0 : Vec Ideal S8x1024x5120 .bf16) (x1 : Vec Ideal S5120x640 .fp8e4m3) (x2 : Vec Ideal S640 .f32)
    (x3 : Vec Ideal S1x1x1 .f32) (x4 : Vec Ideal S640 .bf16) : out0_6 x0 x1 x2 x3 x4 = k0_pay2 x3 x0 := by
  have hz3 : (![0, 0, 0] : Fin 3 → Nat) = fun _ => 0 := funext fun a => by fin_cases a <;> rfl
  unfold out0_6
  rw [View.canon_unit_zero hz3, View.ld_unit_zero hz3, View.ld_unit_zero hz3]

/-- The one-entry array the region reads the scale from holds the scalar argument. -/
theorem scale_entry (c : Dev nD) (j : S1x1x1.Idx) :
    V m c main_v0 j = m ((c : Thread nD τ).loc main_arg3) (fun a => a.elim0) := by
  entry_read
  exact shapeCast_apply _ _ j _ (by fin_cases j <;> rfl)

/-- The block of activations at the one grid point is the whole array. -/
theorem iblk0 (c : Dev nD) : iblk m c 0 t₀ = m ((c : Thread nD τ).loc main_arg0) := by
  have hz : (fun a => (win0_0.index t₀) a * main_arg0.ty.shape.size a) = fun _ => 0 :=
    funext fun a => by fin_cases a <;> decide
  have hr := fun f => Memref.read_access_unit_zero (Elt Ideal) main_arg0 hz (fun a => by fin_cases a <;> decide) f
  unfold iblk
  rw [hr]
  exact V_main_arg0 m c

/-- The block of weight codes at the one grid point is the whole array. -/
theorem iblk1 (c : Dev nD) : iblk m c 1 t₀ = m ((c : Thread nD τ).loc main_arg1) := by
  have hz : (fun a => (win0_1.index t₀) a * main_arg1.ty.shape.size a) = fun _ => 0 :=
    funext fun a => by fin_cases a <;> decide
  have hr := fun f => Memref.read_access_unit_zero (Elt Ideal) main_arg1 hz (fun a => by fin_cases a <;> decide) f
  unfold iblk
  rw [hr]
  exact V_main_arg1 m c

/-- The block of weight scales at the one grid point is the whole array. -/
theorem iblk2 (c : Dev nD) : iblk m c 2 t₀ = m ((c : Thread nD τ).loc main_arg2) := by
  have hz : (fun a => (win0_2.index t₀) a * main_arg2.ty.shape.size a) = fun _ => 0 :=
    funext fun a => by fin_cases a <;> decide
  have hr := fun f => Memref.read_access_unit_zero (Elt Ideal) main_arg2 hz (fun a => by fin_cases a <;> decide) f
  unfold iblk
  rw [hr]
  exact V_main_arg2 m c

/-- The block of biases at the one grid point is the whole array. -/
theorem iblk4 (c : Dev nD) : iblk m c 4 t₀ = m ((c : Thread nD τ).loc main_arg4) := by
  have hz : (fun a => (win0_4.index t₀) a * main_arg4.ty.shape.size a) = fun _ => 0 :=
    funext fun a => by fin_cases a <;> decide
  have hr := fun f => Memref.read_access_unit_zero (Elt Ideal) main_arg4 hz (fun a => by fin_cases a <;> decide) f
  unfold iblk
  rw [hr]
  exact V_main_arg4 m c

/-- The block of the scale at the one grid point is the whole array. -/
theorem iblk3 (c : Dev nD) : iblk m c 3 t₀ = V m c main_v0 := by
  have hz : (fun a => (win0_3.index t₀) a * main_v0.ty.shape.size a) = fun _ => 0 :=
    funext fun a => by fin_cases a <;> decide
  have hr := fun f => Memref.read_access_unit_zero (Elt Ideal) main_v0 hz (fun a => by fin_cases a <;> decide) f
  unfold iblk
  rw [hr]

/-- Output window 5's array after the run holds the layer's output. -/
theorem final5 (c : Dev nD) :
    (dats m 0 c).arrAt 5 cfg0.N
      = linearOf (m ((c : Thread nD τ).loc main_arg0)) (m ((c : Thread nD τ).loc main_arg1)) (m ((c : Thread nD τ).loc main_arg2))
          (m ((c : Thread nD τ).loc main_arg3) fun a => a.elim0) (m ((c : Thread nD τ).loc main_arg4)) := by
  have ho := Value.blocks5 m c t₀ (by decide)
  have hz : (fun a => (win0_5.index t₀) a * main_v1_0.ty.shape.size a) = fun _ => 0 :=
    funext fun a => by fin_cases a <;> decide
  have hr := fun f => Memref.read_access_unit_zero (Elt Ideal) main_v1_0 hz (fun a => by fin_cases a <;> decide) f
  rw [hr] at ho
  rw [ho, Value.flushed5, out5_eq, linear_apply, iblk0, iblk1, iblk2, iblk4, iblk3, scale_entry]
  rfl

/-- Output window 6's array after the run holds the codes. -/
theorem final6 (c : Dev nD) :
    (dats m 0 c).arrAt 6 cfg0.N
      = codesOf (m ((c : Thread nD τ).loc main_arg0)) (m ((c : Thread nD τ).loc main_arg3) fun a => a.elim0) := by
  have ho := Value.blocks6 m c t₀ (by decide)
  have hz : (fun a => (win0_6.index t₀) a * main_v1_1.ty.shape.size a) = fun _ => 0 :=
    funext fun a => by fin_cases a <;> decide
  have hr := fun f => Memref.read_access_unit_zero (Elt Ideal) main_v1_1 hz (fun a => by fin_cases a <;> decide) f
  rw [hr] at ho
  rw [ho, Value.flushed6, out6_eq, codes_eq, iblk0, iblk3, scale_entry]
  rfl

/-- The run: the two arrays hold the layer's output and the codes of the arguments as launched, which end unchanged. -/
theorem run : θ_run (defs (F := Ideal)) (onTc (τ := τ) (main (F := Ideal))) ⟨m, fun _ => 0, ρ⟩ (fun r => ∀ c : Dev nD,
    r.2.mem ((c : Thread nD τ).loc main_v1_0)
      = linearOf (m ((c : Thread nD τ).loc main_arg0)) (m ((c : Thread nD τ).loc main_arg1)) (m ((c : Thread nD τ).loc main_arg2))
          (m ((c : Thread nD τ).loc main_arg3) fun a => a.elim0) (m ((c : Thread nD τ).loc main_arg4))
    ∧ r.2.mem ((c : Thread nD τ).loc main_v1_1)
      = codesOf (m ((c : Thread nD τ).loc main_arg0)) (m ((c : Thread nD τ).loc main_arg3) fun a => a.elim0)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c => ⟨(h c).1.trans (final5 m c), (h c).2.1.trans (final6 m c), (h c).2.2⟩)
    (Value.run_blocks m ρ)

end Cert.Proof.Reference

end
-- ==== Proof.lean ====
/-
  The proof of `Cert.Claim` (proofs.«01_k».proof.Defs), hand-written, untrusted. The three frames are the generated ones.
  The reference agrees with the kernel over the extended reals because each program's run ends with the layer's output
  and the codes (Proof/Spec.lean) of the arguments: Proof/KernelValue.lean and Proof/ReferenceValue.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The five claims: the three frames, the ideal pass's claim, and the two programs' equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, by
  intro m g m' g' _ hargs
  refine ⟨_, _, _,
    (θ_run _ _ _).mono (fun _ h c => ⟨(h c).1, (h c).2.1, (h c).2.2.2.2.2.1, (h c).2.2⟩) (Kernel.run m g),
    (θ_run _ _ _).mono (fun _ h c => ?_) (Reference.run m' g')⟩
  obtain ⟨h0, h1, hrest⟩ := h c
  obtain ⟨e0, e1, e2, e3, e4⟩ := hargs c
  rw [e0, e1, e2, e3, e4] at h0
  rw [e0, e3] at h1
  exact ⟨h0, h1, hrest.2.2.2.1.trans e3, hrest⟩⟩

end Cert.Proof

end
